-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_range [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_in_range [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "one_plus_clip" .f32 0x3F866666#32 ((281857229 / 268435456 : ℝ) : EReal)

def algebraic_KernelIdeal_ReferenceIdeal_pre_targets_in_range [hKernelIdeal : Cert.KernelIdeal.Facts] [hReferenceIdeal : Cert.ReferenceIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in_range : Cert.Pre_targets_in_range.Facts),
    quiescent_Kernel (hKernel := hKernel)
    ∧ quiescent_KernelIdeal (hKernelIdeal := hKernelIdeal)
    ∧ quiescent_KernelIdeal_pre_targets_in_range (hKernelIdeal := hKernelIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ preserves_Kernel_KernelIdeal
    ∧ algebraic_KernelIdeal_ReferenceIdeal_pre_targets_in_range (hKernelIdeal := hKernelIdeal) (hReferenceIdeal := hReferenceIdeal) (hPre_targets_in_range := hPre_targets_in_range)
-- ==== Pre_targets_in_range.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) (main_arg1 : IVec S128x32768 32) : IVec S_ 1 :=
  let main_c : IVec S_ 32 := constantI S_ 32 4294967295#32
  let main_v0 : IVec S128x32768 32 := broadcastInDim S128x32768 ![] bcast_S_S128x32768 main_c
  let main_v1 : IVec S128x32768 1 := cmpi .sge main_arg1 main_v0
  let main_c_0 : IVec S_ 32 := constantI S_ 32 1#32
  let main_v2 : IVec S128x32768 32 := broadcastInDim S128x32768 ![] bcast_S_S128x32768 main_c_0
  let main_v3 : IVec S128x32768 1 := cmpi .sle main_arg1 main_v2
  let main_v4 : IVec S128x32768 1 := andi main_v1 main_v3
  let main_c_1 : IVec S_ 1 := constantI S_ 1 1#1
  let main_v5 : IVec S_ 1 := (fun x v => Host.reduce IntOp.andi x v reducesTo_S128x32768_S_d0_1 h_S_) main_v4 main_c_1
  main_v5
-- ==== Kernel.lean ====
abbrev S128x32768 : Shape := ⟨2, ![128, 32768]⟩
abbrev S1x1 : Shape := ⟨2, ![1, 1]⟩
abbrev S32x32768 : Shape := ⟨2, ![32, 32768]⟩
abbrev S1x32x32768 : Shape := ⟨3, ![1, 32, 32768]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S128x32768, .f32⟩
  | .hbm, ⟨1, _⟩ => ⟨S128x32768, .i32⟩
  | .hbm, ⟨2, _⟩ => ⟨S1x1, .f32⟩
  | .hbm, ⟨3, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .i32⟩
  | .local _ .vmem, ⟨3, _⟩ => ⟨S32x32768, .i32⟩
  | .local _ .vmem, ⟨4, _⟩ => ⟨S1x1, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "one_plus_clip" => some ((281857229 / 268435456 : ℝ) : EReal)
  | _ => none
-- ==== ReferenceIdeal.lean ====
abbrev S128x32768 : Shape := ⟨2, ![128, 32768]⟩
abbrev S_ : Shape := ⟨0, ![]⟩
abbrev S4194304 : Shape := ⟨1, ![4194304]⟩
abbrev S640 : Shape := ⟨1, ![640]⟩
abbrev S640x1 : Shape := ⟨2, ![640, 1]⟩

abbrev nBuf : Space → Nat
  | .hbm => 101
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i32⟩
  | .hbm, ⟨2, _⟩ => ⟨S_, .i32⟩
  | .hbm, ⟨3, _⟩ => ⟨S128x32768, .i32⟩
  | .hbm, ⟨4, _⟩ => ⟨S128x32768, .i1⟩
  | .hbm, ⟨5, _⟩ => ⟨S128x32768, .f32⟩
  | .hbm, ⟨6, _⟩ => ⟨S_, .i32⟩
  | .hbm, ⟨7, _⟩ => ⟨S128x32768, .i32⟩
  | .hbm, ⟨8, _⟩ => ⟨S128x32768, .i1⟩
  | .hbm, ⟨9, _⟩ => ⟨S128x32768, .f32⟩
  | .hbm, ⟨10, _⟩ => ⟨S_, .i32⟩
  | .hbm, ⟨11, _⟩ => ⟨S128x32768, .i32⟩
  | .hbm, ⟨12, _⟩ => ⟨S128x32768, .i1⟩
  | .hbm, ⟨13, _⟩ => ⟨S128x32768, .f32⟩
  | .hbm, ⟨14, _⟩ => ⟨S128x32768, .f32⟩
  | .hbm, ⟨15, _⟩ => ⟨S128x32768, .f32⟩
  | .hbm, ⟨16, _⟩ => ⟨S_, .f32⟩
  | .hbm, ⟨17, _⟩ => ⟨S128x32768, .f32⟩
  | .hbm, ⟨18, _⟩ => ⟨S128x32768, .f32⟩
  | .hbm, ⟨19, _⟩ => ⟨S_, .f32⟩
  | .hbm, ⟨20, _⟩ => ⟨S128x32768, .f32⟩
  | .hbm, ⟨21, _⟩ => ⟨S128x32768, .f32⟩
  | .hbm, ⟨22, _⟩ => ⟨S_, .f32⟩
  | .hbm, ⟨23, _⟩ => ⟨S128x32768, .f32⟩
  | .hbm, ⟨24, _⟩ => ⟨S128x32768, .f32⟩
  | .hbm, ⟨25, _⟩ => ⟨S_, .f32⟩
  | .hbm, ⟨26, _⟩ => ⟨S128x32768, .f32⟩
  | .hbm, ⟨27, _⟩ => ⟨S128x32768, .f32⟩
  | .hbm, ⟨28, _⟩ => ⟨S_, .f32⟩
  | .hbm, ⟨29, _⟩ => ⟨S128x32768, .f32⟩
  | .hbm, ⟨30, _⟩ => ⟨S128x32768, .f32⟩
  | .hbm, ⟨31, _⟩ => ⟨S4194304, .i32⟩
  | .hbm, ⟨32, _⟩ => ⟨S4194304, .f32⟩
  | .hbm, ⟨33, _⟩ => ⟨S_, .i32⟩
  | .hbm, ⟨34, _⟩ => ⟨S4194304, .i32⟩
  | .hbm, ⟨35, _⟩ => ⟨S4194304, .i1⟩
  | .hbm, ⟨36, _⟩ => ⟨S_, .f32⟩
  | .hbm, ⟨37, _⟩ => ⟨S_, .f32⟩
  | .hbm, ⟨38, _⟩ => ⟨S4194304, .f32⟩
  | .hbm, ⟨39, _⟩ => ⟨S4194304, .f32⟩
  | .hbm, ⟨40, _⟩ => ⟨S4194304, .f32⟩
  | .hbm, ⟨41, _⟩ => ⟨S640, .f32⟩
  | .hbm, ⟨42, _⟩ => ⟨S640, .i32⟩
  | .hbm, ⟨43, _⟩ => ⟨S640, .f32⟩
  | .hbm, ⟨44, _⟩ => ⟨S_, .f32⟩
  | .hbm, ⟨45, _⟩ => ⟨S640, .f32⟩
  | .hbm, ⟨46, _⟩ => ⟨S640, .i1⟩
  | .hbm, ⟨47, _⟩ => ⟨S_, .f32⟩
  | .hbm, ⟨48, _⟩ => ⟨S4194304, .f32⟩
  | .hbm, ⟨49, _⟩ => ⟨S_, .i32⟩
  | .hbm, ⟨50, _⟩ => ⟨S640, .i32⟩
  | .hbm, ⟨51, _⟩ => ⟨S640, .i1⟩
  | .hbm, ⟨52, _⟩ => ⟨S_, .i32⟩
  | .hbm, ⟨53, _⟩ => ⟨S640, .i32⟩
  | .hbm, ⟨54, _⟩ => ⟨S640, .i32⟩
  | .hbm, ⟨55, _⟩ => ⟨S640, .i32⟩
  | .hbm, ⟨56, _⟩ => ⟨S640x1, .i32⟩
  | .hbm, ⟨57, _⟩ => ⟨S640, .f32⟩
  | .hbm, ⟨58, _⟩ => ⟨S_, .f32⟩
  | .hbm, ⟨59, _⟩ => ⟨S_, .f32⟩
  | .hbm, ⟨60, _⟩ => ⟨S640, .f32⟩
  | .hbm, ⟨61, _⟩ => ⟨S640, .f32⟩
  | .hbm, ⟨62, _⟩ => ⟨S_, .i32⟩
  | .hbm, ⟨63, _⟩ => ⟨S640, .i32⟩
  | .hbm, ⟨64, _⟩ => ⟨S640, .i1⟩
  | .hbm, ⟨65, _⟩ => ⟨S_, .i32⟩
  | .hbm, ⟨66, _⟩ => ⟨S640, .i32⟩
  | .hbm, ⟨67, _⟩ => ⟨S640, .i32⟩
  | .hbm, ⟨68, _⟩ => ⟨S640, .i32⟩
  | .hbm, ⟨69, _⟩ => ⟨S640x1, .i32⟩
  | .hbm, ⟨70, _⟩ => ⟨S4194304, .f32⟩
  | .hbm, ⟨71, _⟩ => ⟨S128x32768, .f32⟩
  | .hbm, ⟨72, _⟩ => ⟨S_, .f32⟩
  | .hbm, ⟨73, _⟩ => ⟨S128x32768, .f32⟩
  | .hbm, ⟨74, _⟩ => ⟨S128x32768, .f32⟩
  | .hbm, ⟨75, _⟩ => ⟨S_, .f32⟩
  | .hbm, ⟨76, _⟩ => ⟨S128x32768, .f32⟩
  | .hbm, ⟨77, _⟩ => ⟨S128x32768, .f32⟩
  | .hbm, ⟨78, _⟩ => ⟨S128x32768, .f32⟩
  | .hbm, ⟨79, _⟩ => ⟨S128x32768, .f32⟩
  | .hbm, ⟨80, _⟩ => ⟨S_, .f32⟩
  | .hbm, ⟨81, _⟩ => ⟨S128x32768, .f32⟩
  | .hbm, ⟨82, _⟩ => ⟨S128x32768, .f32⟩
  | .hbm, ⟨83, _⟩ => ⟨S_, .f32⟩
  | .hbm, ⟨84, _⟩ => ⟨S128x32768, .f32⟩
  | .hbm, ⟨85, _⟩ => ⟨S128x32768, .f32⟩
  | .hbm, ⟨86, _⟩ => ⟨S128x32768, .f32⟩
  | .hbm, ⟨87, _⟩ => ⟨S128x32768, .f32⟩
  | .hbm, ⟨88, _⟩ => ⟨S_, .f32⟩
  | .hbm, ⟨89, _⟩ => ⟨S128x32768, .f32⟩
  | .hbm, ⟨90, _⟩ => ⟨S128x32768, .f32⟩
  | .hbm, ⟨91, _⟩ => ⟨S_, .f32⟩
  | .hbm, ⟨92, _⟩ => ⟨S128x32768, .f32⟩
  | .hbm, ⟨93, _⟩ => ⟨S128x32768, .f32⟩
  | .hbm, ⟨94, _⟩ => ⟨S128x32768, .f32⟩
  | .hbm, ⟨95, _⟩ => ⟨S128x32768, .f32⟩
  | .hbm, ⟨96, _⟩ => ⟨S128x32768, .f32⟩
  | .hbm, ⟨97, _⟩ => ⟨S128x32768, .f32⟩
  | .hbm, ⟨98, _⟩ => ⟨S_, .f32⟩
  | .hbm, ⟨99, _⟩ => ⟨S_, .f32⟩
  | .hbm, ⟨100, _⟩ => ⟨S_, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_v26 : Ref sig .tc := ⟨.hbm, 40, rfl⟩
abbrev main_values : Ref sig .tc := ⟨.hbm, 41, rfl⟩
abbrev main_indices : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_c_10 : Ref sig .tc := ⟨.hbm, 49, rfl⟩
abbrev main_v31 : Ref sig .tc := ⟨.hbm, 50, rfl⟩
abbrev main_v32 : Ref sig .tc := ⟨.hbm, 51, rfl⟩
abbrev main_c_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_call1_v0 : Ref sig .tc := ⟨.hbm, 59, rfl⟩
abbrev main_call1_v1 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_15 : Ref sig .tc := ⟨.hbm, 72, rfl⟩
abbrev main_v47 : Ref sig .tc := ⟨.hbm, 73, rfl⟩
abbrev main_v48 : Ref sig .tc := ⟨.hbm, 74, rfl⟩
abbrev main_cst_16 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_19 : Ref sig .tc := ⟨.hbm, 88, rfl⟩
abbrev main_v59 : Ref sig .tc := ⟨.hbm, 89, rfl⟩
abbrev main_v60 : Ref sig .tc := ⟨.hbm, 90, rfl⟩
abbrev main_cst_20 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_21 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Proof.Block.lean ====
/-
  What the kernel's grid leaves, at any float instance: the first point stores one block's step over zero, every later point
  its block's step over what the point before left, and the one element copied out at the end is the result after point 3.
-/
module

public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.KernelIdeal.Grid

open Idealize.ShloMosaic Idealize.ShloMosaic.TcCoe Idealize.ShloMosaic.Tactic
open Idealize.SL.Sem
open Cert.KernelIdeal Cert.KernelIdeal.Gen
open Idealize.ShloMosaic.Pipeline (Dat Cfg Window)

variable {F : FTy → Type} [FloatOps F] [Named F]
variable (m : (ℓ : Loc nD τ sig) → Buf (Elt F) ℓ) (ρ : Dev nD → PrngReg)

theorem origin : (![0, 0] : Fin 2 → Nat) = fun _ => 0 := by decide

/-- The step of one point: the carried element less the block's sum of logarithms. -/
abbrev step (x : Vec F S32x32768 .f32) (t : Vec F S32x32768 .i32) (acc : Vec F S1x1 .f32) : Vec F S1x1 .f32 :=
  k0_pay2 x t acc

/-- A point other than the first leaves its step over what it found. -/
theorem later_point (c : Dev nD) (i : grid0.Coords) (a : Memref sig .tc .vmem S32x32768 .f32) (ha : a.IsWhole)
    (b : Memref sig .tc .vmem S32x32768 .i32) (hb : b.IsWhole) (o : Memref sig .tc .vmem S1x1 .f32) (ho : o.IsWhole)
    (hc : ¬cond0_0 i) (x : Vec F S32x32768 .f32) (t : Vec F S32x32768 .i32) (acc : Vec F S1x1 .f32) :
    out0_B_2 c i a ha b hb o ho hc x t acc = step x t acc := by
  unfold out0_B_2
  rw [View.read_writes_eq_canon _ _ _ (cover0_B_2 c i a ha b hb o ho hc x t acc)]
  unfold kernelRun0_B
  dsimp only
  rw [View.canon_unit_zero origin]
  unfold step
  simp only [View.readAt_eq_ld, ha.read_unread, hb.read_unread, ho.read_unread,
    View.ld_unit_zero (S := S32x32768) origin, View.ld_unit_zero (S := S1x1) origin]

/-- The first point leaves its step over the zero it stored. -/
theorem first_point (c : Dev nD) (i : grid0.Coords) (a : Memref sig .tc .vmem S32x32768 .f32) (ha : a.IsWhole)
    (b : Memref sig .tc .vmem S32x32768 .i32) (hb : b.IsWhole) (o : Memref sig .tc .vmem S1x1 .f32) (ho : o.IsWhole)
    (hc : cond0_0 i) (x : Vec F S32x32768 .f32) (t : Vec F S32x32768 .i32) :
    out0_A_2 c i a ha b hb o ho hc x t = step x t k0_pay1 := by
  unfold out0_A_2
  rw [View.read_writes_eq_canon _ _ _ (cover0_A_2 c i a ha b hb o ho hc x t)]
  unfold kernelRun0_A
  dsimp only
  sl_unfold_words
  rw [View.canon_cons_unit_zero (S := S1x1) origin]
  unfold step
  simp only [View.readAt_eq_ld, ha.read_unread, hb.read_unread, View.ld_unit_zero (S := S32x32768) origin,
    View.readCov_unit_zero (S := S1x1) _ origin]

/-- The carried element after point `n`. -/
def carry (c : Dev nD) : (n : ℕ) → n < cfg0.N → Vec F S1x1 .f32
  | 0, h => step (iblk m c 0 ⟨0, h⟩) (iblk m c 1 ⟨0, h⟩) k0_pay1
  | n + 1, h => step (iblk m c 0 ⟨n + 1, h⟩) (iblk m c 1 ⟨n + 1, h⟩) (carry c n (Nat.lt_of_succ_lt h))

/-- The output block's contents after each point are the carried element. -/
theorem outsAt_carry (c : Dev nD) : ∀ (n : ℕ) (h : n < cfg0.N), outsAt0 m c n h = carry m c n h := by
  intro n
  induction n with
  | zero =>
    intro h
    exact (outsAt0_A m c ⟨0, h⟩ (Nat.zero_mod 4)).trans (first_point ..)
  | succ k ih =>
    intro h
    have hk : ¬(k + 1) % 4 = 0 := by have h4 : k + 1 < 4 := N_0 ▸ h; omega
    refine (outsAt0_B m c ⟨k + 1, h⟩ hk).trans ((later_point ..).trans ?_)
    exact congrArg (step _ _) (ih (Nat.lt_of_succ_lt h))

theorem points : cfg0.N = 4 := N_0

/-- The kernel's output array: the carried element after the last point. -/
def total (c : Dev nD) : Vec F S1x1 .f32 := carry m c 3 (by rw [points]; decide)

theorem index_last : ∀ a, win0_2.index t0_3 a * win0_2.size a = 0 := by decide +kernel

/-- The one block written back is the whole array. -/
theorem flushed_total (c : Dev nD) (t : Fin cfg0.N) (hf : (cfg0.win 2).flush t = true) :
    (dats m 0 c).flushed 2 t = ((cfg0.win 2).blk t).view.read (Elt F) (total m c) := by
  have h3 : t.val = 3 := by
    have h4 : t.val < 4 := points ▸ t.isLt
    have h := (flush0_2 t).mp hf
    omega
  obtain rfl : t = t0_3 := Fin.ext h3
  show (cfg0.win 2).cut (grid0.coords t0_3) ((dats m 0 c).after 2 t0_3) = _
  rw [after0_2, outsAt_carry]
  exact (Memref.read_access_unit_zero (Elt F) main_v0 (funext index_last)
    (fun a => by rw [index_last a]; simp) (total m c)).symm

/-- The output array ends at the carried element after the last point. -/
theorem array_total (c : Dev nD) : (dats m 0 c).arrAt 2 cfg0.N = total m c :=
  (dats m 0 c).arrAt_eq_of_cover 2 (total m c) (flushed_total m c) fun i =>
    ⟨t0_3, (flush0_2 t0_3).mpr rfl, by
      show i ∈ ((View.whole main_v0).slice (win0_2.rect t0_3)).set
      rw [View.set_slice_whole, Rect.mem_set_unit]
      intro a
      have hx : ∀ a, win0_2.xsize (grid0.coords t0_3) a = 1 := by decide +kernel
      have hi : (i a : ℕ) < 1 := by
        have h := (i a).isLt
        match a with
        | ⟨0, _⟩ => exact h
        | ⟨1, _⟩ => exact h
      show win0_2.index t0_3 a * win0_2.size a ≤ (i a : ℕ)
        ∧ (i a : ℕ) < win0_2.index t0_3 a * win0_2.size a + win0_2.xsize (grid0.coords t0_3) a
      rw [index_last a, hx a]
      omega⟩

/-- The program's result: the array's one element as a scalar. -/
def result (c : Dev nD) : Vec F S_ .f32 := shapeCast S_ (total m c) shapeCasts_S1x1_S_

/-- The lines after the region leave the result. -/
theorem tail_result (c : Dev nD) :
    Pipeline.afterTail₀ cfgs (dats m) 0 (V0 m) [hostOps1] c main_v1 = result m c := by
  unfold Pipeline.afterTail₀
  simp only [List.flatten_cons, List.flatten_nil, List.append_nil, hostOps1]
  rw [StableHlo.after_cons, StableHlo.after_nil]
  refine (StableHlo.reshape_result ..).trans ?_
  exact congrArg (fun v => shapeCast S_ v shapeCasts_S1x1_S_)
    ((Pipeline.withArrays_arr spec0 (by decide) c (V0 m c) (fun w => (dats m 0 c).arrAt w cfg0.N) 2).trans (array_total m c))

/-- The run: the result holds the total, and the arguments are unchanged. -/
theorem run : θ_run defs (onTc (τ := τ) (main (F := F))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v1 (by decide)).trans (tail_result m c), h.2 c⟩)
    (θ_run_and (run_main m ρ) (unchanged m ρ))

end Cert.KernelIdeal.Grid

end
-- ==== Proof.Entry.lean ====
/-
  One entry of the loss, on the extended reals. Every logit, infinite ones too, has a logistic value that is a real number
  between 0 and 1, and the logarithms are taken of positive reals only. So an entry is a real number, `score`, in the
  kernel's form (one logarithm of a selected argument) and in the reference's (three products, two of them by a zero mask).
-/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Loss

open Idealize.ShloMosaic
open scoped BigOperators

/-- The lower bound under the logarithms, the f32 word nearest to 1e-8. -/
def eps : ℝ := 11258999 / 2 ^ 50

/-- The shift of the negatives' probability, the f32 word nearest to 0.05. -/
def shift : ℝ := 13421773 / 2 ^ 28

/-- The word of the lower bound denotes `eps`. -/
theorem word_eps : Ideal.ofBits .f32 0x322BCC77#32 = ((eps : ℝ) : EReal) := by
  simp [Ideal.ofBits, Ideal.ieee, eps, -EReal.coe_mul]; norm_num

/-- The word of the shift denotes `shift`. -/
theorem word_shift : Ideal.ofBits .f32 0x3D4CCCCD#32 = ((shift : ℝ) : EReal) := by
  simp [Ideal.ofBits, Ideal.ieee, shift, -EReal.coe_mul]; norm_num

theorem eps_pos : 0 < eps := by unfold eps; norm_num
theorem eps_le_shift : eps ≤ shift := by unfold eps shift; norm_num
theorem eps_le_one : eps ≤ 1 := by unfold eps; norm_num

/-- The probability of a logit, as a real number. -/
def prob (x : EReal) : ℝ := (Ideal.logistic x).toReal

/-- The logistic of any extended real is a real number from 0 to 1. -/
theorem logistic_unit (x : EReal) : ∃ r : ℝ, Ideal.logistic x = r ∧ 0 ≤ r ∧ r ≤ 1 := by
  induction x using EReal.rec with
  | bot => exact ⟨0, by simp, le_refl _, zero_le_one⟩
  | top => exact ⟨1, by simp, zero_le_one, le_refl _⟩
  | coe r =>
    have h := Real.exp_pos (-r)
    exact ⟨_, Ideal.logistic_coe r, by positivity, inv_le_one_of_one_le₀ (by linarith)⟩

theorem logistic_eq (x : EReal) : Ideal.logistic x = (prob x : EReal) := by
  obtain ⟨r, h, -⟩ := logistic_unit x
  simp [prob, h]

theorem prob_nonneg (x : EReal) : 0 ≤ prob x := by
  obtain ⟨r, h, h0, -⟩ := logistic_unit x
  simpa [prob, h] using h0

theorem prob_le_one (x : EReal) : prob x ≤ 1 := by
  obtain ⟨r, h, -, h1⟩ := logistic_unit x
  simpa [prob, h] using h1

/-- The argument of the logarithm for a target 1. -/
def posArg (x : EReal) : ℝ := max (prob x) eps

/-- The argument of the logarithm for every other target. -/
def negArg (x : EReal) : ℝ := min (1 - prob x + shift) 1

theorem posArg_pos (x : EReal) : 0 < posArg x := lt_max_of_lt_right eps_pos

theorem eps_le_negArg (x : EReal) : eps ≤ negArg x :=
  le_min (by linarith [prob_le_one x, eps_le_shift]) eps_le_one

/-- One entry of the loss before the sign: the logarithm of the probability that the target asks for. -/
def score (x : EReal) (t : BitVec 32) : ℝ := Real.log (if t = 1#32 then posArg x else negArg x)

/-- The logarithm of a positive real is the real logarithm. -/
theorem log_pos {r : ℝ} (h : 0 < r) : Ideal.log (r : EReal) = (Real.log r : EReal) := by
  rw [Ideal.log_coe, if_neg (not_le.mpr h)]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- The reference's logarithm for a target 1. -/
theorem log_posArg (x : EReal) : Ideal.log (max (Ideal.logistic x) (eps : EReal)) = (Real.log (posArg x) : EReal) := by
  rw [logistic_eq, coe_max]; exact log_pos (posArg_pos x)

/-- The reference's logarithm for the other targets: its lower bound is never reached. -/
theorem log_negArg (x : EReal) :
    Ideal.log (max (min (1 - Ideal.logistic x + (shift : EReal)) 1) (eps : EReal)) = (Real.log (negArg x) : EReal) := by
  rw [logistic_eq, ← EReal.coe_one, ← EReal.coe_sub, ← EReal.coe_add, coe_min, coe_max]
  change Ideal.log ((max (negArg x) eps : ℝ) : EReal) = _
  rw [max_eq_left (eps_le_negArg x)]
  exact log_pos (lt_of_lt_of_le eps_pos (eps_le_negArg x))

/-- An entry as the kernel computes it. -/
theorem kernel_entry (x : EReal) (t : BitVec 32) :
    Ideal.log (if t = 1#32 then max (Ideal.logistic x) (eps : EReal)
      else min (((1 + shift : ℝ) : EReal) - Ideal.logistic x) 1) = (score x t : EReal) := by
  unfold score
  split
  · exact log_posArg x
  · rw [logistic_eq, ← EReal.coe_one, ← EReal.coe_sub, coe_min,
      show 1 + shift - prob x = 1 - prob x + shift by ring]
    exact log_pos (lt_of_lt_of_le eps_pos (eps_le_negArg x))

/-- A comparison for equality, as a bit. -/
theorem cmp_eq (t v : BitVec 32) : IntOp.cmpi .eq t v = if t = v then 1#1 else 0#1 := by
  by_cases h : t = v
  · simp [IntOp.cmpi, h]
  · rw [if_neg h]
    show BitVec.ofBool (t == v) = 0#1
    rw [beq_eq_false_iff_ne.mpr h]
    rfl

/-- A mask as a number: 1 where the condition holds and 0 elsewhere. -/
def mask (t v : BitVec 32) : ℝ := if t = v then 1 else 0

/-- The comparison's bit, converted to a float, is the mask. -/
theorem mask_eq (t v : BitVec 32) : (((IntOp.cmpi .eq t v).toNat : ℝ) : EReal) = (mask t v : EReal) := by
  rw [cmp_eq]
  by_cases h : t = v <;> simp [mask, h]

/-- An entry as the reference computes it, for a target 1, 0 or -1. -/
theorem reference_entry (x : EReal) (t : BitVec 32) (ht : t = 1#32 ∨ t = 0#32 ∨ t = 4294967295#32) :
    (1 * (mask t 1#32 : EReal)) * Ideal.log (max (Ideal.logistic x) (eps : EReal))
      + (1 * (mask t 0#32 : EReal)) * Ideal.log (max (min (1 - Ideal.logistic x + (shift : EReal)) 1) (eps : EReal))
      + (1 * (mask t 4294967295#32 : EReal))
        * Ideal.log (max (min (1 - Ideal.logistic x + (shift : EReal)) 1) (eps : EReal)) = (score x t : EReal) := by
  rw [log_posArg, log_negArg]
  rcases ht with rfl | rfl | rfl <;> simp [mask, score]

/-- A finite sum of reals is the same sum taken on the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The scores of one row of the two arrays. -/
def rowScore (x : (⟨2, ![128, 32768]⟩ : Shape).Idx → EReal) (t : (⟨2, ![128, 32768]⟩ : Shape).Idx → BitVec 32)
    (r : Fin 128) : ℝ :=
  ∑ l : Fin 32768, score (x (ix2 r l)) (t (ix2 r l))

/-- The 128 rows are four blocks of 32. -/
theorem sum_rows (f : Fin 128 → ℝ) :
    ∑ r, f r = ∑ k : Fin 4, ∑ r : Fin 32, f ⟨32 * k.val + r.val, by omega⟩ := by
  rw [← Fintype.sum_prod_type', ← Equiv.sum_comp (finProdFinEquiv (m := 4) (n := 32)) f]
  exact Finset.sum_congr rfl fun p _ => congrArg f (Fin.ext (Nat.add_comm _ _))

end Cert.Loss

end
-- ==== Proof.Kernel.lean ====
/-
  The kernel's result at the ideal instance: a point's step subtracts the sum of its block's scores, and the four blocks'
  rows are the arrays' rows, so the result is the negated sum of the scores, written block by block.
-/
module

public import proofs.«01_k».proof.Defs
public import proofs.«01_k».proof.Proof.Block
public import proofs.«01_k».proof.Proof.Entry
public import Idealize.ShloMosaic.Lib.Pointwise

@[expose] public section

set_option maxRecDepth 16384

noncomputable section

namespace Cert.KernelIdeal.Grid

open Idealize.ShloMosaic Idealize.ShloMosaic.TcCoe Idealize.SL.Sem
open Cert.KernelIdeal Cert.KernelIdeal.Gen Cert.Loss
open scoped BigOperators

/-- The named constant is one more than the shift. -/
theorem named_bound : Named.named (F := Ideal) κ "one_plus_clip" (φ := .f32) 0x3F866666#32 = ((1 + shift : ℝ) : EReal) :=
  (IdealRules.named_const.ideal_named_scalar _ _ _ _ rfl).trans (by unfold shift; norm_num)

/-- One point's step: the carried element less the sum of the block's scores. -/
theorem step_apply (x : Vec Ideal S32x32768 .f32) (t : Vec Ideal S32x32768 .i32) (acc : Vec Ideal S1x1 .f32) (j : S1x1.Idx) :
    step x t acc j = acc j + (0 - ∑ r : Fin 32, ∑ l : Fin 32768, (score (x (ix2 r l)) (t (ix2 r l)) : EReal)) := by
  pointwise [step, k0_pay2]
  refine congrArg (fun v => acc j + (0 - v)) (Finset.sum_congr rfl fun r _ => Finset.sum_congr rfl fun l _ => ?_)
  rw [← kernel_entry, word_eps, named_bound, cmp_eq]
  by_cases h : t (ix2 r l) = 1#32 <;> simp [Scalar.select, h]

variable (m : (ℓ : Loc nD τ sig) → Buf (Elt Ideal) ℓ)

/-- Row `r` of a point's block is row `32 t + r` of the array. -/
def row (t : Fin cfg0.N) (r : Fin 32) : Fin 128 := ⟨32 * t.val + r.val, by
  have h4 : t.val < 4 := lt_of_lt_of_eq t.isLt points
  omega⟩

/-- Both inputs' windows sit at block row `t`, block column 0. -/
theorem index_in (t : Fin cfg0.N) :
    (win0_0.index t 0 = t.val ∧ win0_0.index t 1 = 0) ∧ win0_1.index t 0 = t.val ∧ win0_1.index t 1 = 0 := by
  rcases fin_N0 t with rfl | rfl | rfl | rfl <;> decide

/-- The block of logits at a point. -/
theorem logits_apply (c : Dev nD) (t : Fin cfg0.N) (r : Fin 32) (l : Fin 32768) :
    (iblk m c 0 t : Vec Ideal S32x32768 .f32) (ix2 r l) = m (c.tc.loc main_arg0) (ix2 (row t r) l) := by
  unfold iblk
  rw [View.read_apply]
  show V m c main_arg0 _ = _
  unfold V
  refine congrArg (m (c.tc.loc main_arg0)) (funext fun a => Fin.ext ?_)
  match a with
  | ⟨0, _⟩ => show win0_0.index t 0 * 32 + 1 * r.val = 32 * t.val + r.val; rw [(index_in t).1.1]; omega
  | ⟨1, _⟩ => show win0_0.index t 1 * 32768 + 1 * l.val = l.val; rw [(index_in t).1.2]; omega

/-- The block of targets at a point. -/
theorem targets_apply (c : Dev nD) (t : Fin cfg0.N) (r : Fin 32) (l : Fin 32768) :
    (iblk m c 1 t : Vec Ideal S32x32768 .i32) (ix2 r l) = m (c.tc.loc main_arg1) (ix2 (row t r) l) := by
  unfold iblk
  rw [View.read_apply]
  show V m c main_arg1 _ = _
  unfold V
  refine congrArg (m (c.tc.loc main_arg1)) (funext fun a => Fin.ext ?_)
  match a with
  | ⟨0, _⟩ => show win0_1.index t 0 * 32 + 1 * r.val = 32 * t.val + r.val; rw [(index_in t).2.1]; omega
  | ⟨1, _⟩ => show win0_1.index t 1 * 32768 + 1 * l.val = l.val; rw [(index_in t).2.2]; omega

/-- One point's step on the program's blocks: the carried real less the scores of the block's rows. -/
theorem step_block (c : Dev nD) (t : Fin cfg0.N) (acc : Vec Ideal S1x1 .f32) (a : ℝ) (j : S1x1.Idx) (ha : acc j = (a : EReal)) :
    step (iblk m c 0 t) (iblk m c 1 t) acc j
      = ((a - ∑ r : Fin 32, rowScore (m (c.tc.loc main_arg0)) (m (c.tc.loc main_arg1)) (row t r) : ℝ) : EReal) := by
  rw [step_apply, ha]
  simp only [logits_apply, targets_apply, coe_sum]
  rw [← EReal.coe_zero, ← EReal.coe_sub, ← EReal.coe_add]
  congr 1
  unfold rowScore
  ring

/-- The program's result is the negated sum of all the scores. -/
theorem result_eq (c : Dev nD) (j : S_.Idx) :
    result m c j = ((-∑ r : Fin 128, rowScore (m (c.tc.loc main_arg0)) (m (c.tc.loc main_arg1)) r : ℝ) : EReal) := by
  have zero (j : S1x1.Idx) : k0_pay1 (F := Ideal) j = ((0 : ℝ) : EReal) := by
    pointwise [k0_pay1]
    rfl
  show carry m c 3 _ _ = _
  simp only [carry]
  rw [step_block m c _ _ _ _ (step_block m c _ _ _ _ (step_block m c _ _ _ _ (step_block m c _ _ _ _ (zero _))))]
  have four (S : Fin 4 → ℝ) : 0 - S 0 - S 1 - S 2 - S 3 = -∑ k, S k := by rw [Fin.sum_univ_four]; ring
  rw [sum_rows]
  exact congrArg Real.toEReal (four fun k => ∑ r : Fin 32, rowScore (m (c.tc.loc main_arg0)) (m (c.tc.loc main_arg1))
    ⟨32 * k.val + r.val, by omega⟩)

end Cert.KernelIdeal.Grid

end
-- ==== Proof.Reference.lean ====
/-
  The reference's result at the ideal instance: entry by entry its three masked logarithms are the score, so its result is
  the negated sum of the scores over all rows, for targets 1, 0 and -1.
-/
module

public import proofs.«01_k».proof.Defs
public import proofs.«01_k».proof.Proof.Gen.ReferenceIdeal.Run
public import proofs.«01_k».proof.Proof.Entry

@[expose] public section

set_option maxRecDepth 16384

noncomputable section

namespace Cert.ReferenceIdeal.Loss

open Idealize.ShloMosaic Idealize.ShloMosaic.TcCoe Idealize.SL.Sem
open Cert.ReferenceIdeal Cert.ReferenceIdeal.Gen Cert.Loss
open scoped BigOperators

/-- A scalar constant spread over the array. -/
abbrev spread (w : BitVec 32) : FVec Ideal S128x32768 .f32 :=
  broadcastInDim S128x32768 ![] bcast_S_S128x32768 (constant S_ .f32 w)

/-- The mask of the entries whose target is a given word. -/
abbrev masked (t : IVec S128x32768 32) (v : BitVec 32) : FVec Ideal S128x32768 .f32 :=
  uitofp .f32 (cmpi .eq t (broadcastInDim S128x32768 ![] bcast_S_S128x32768 (constantI S_ 32 v)))

/-- The probabilities. -/
abbrev probs (x : FVec Ideal S128x32768 .f32) : FVec Ideal S128x32768 .f32 :=
  Host.divf (spread 0x3F800000#32) (addf (spread 0x3F800000#32) (Host.exp (Host.negf x)))

/-- The logarithms for a target 1. -/
abbrev posLog (x : FVec Ideal S128x32768 .f32) : FVec Ideal S128x32768 .f32 :=
  Host.log (maximumf (probs x) (spread 0x322BCC77#32))

/-- The logarithms for the other targets. -/
abbrev negLog (x : FVec Ideal S128x32768 .f32) : FVec Ideal S128x32768 .f32 :=
  Host.log (maximumf (minimumf (addf (subf (spread 0x3F800000#32) (probs x)) (spread 0x3D4CCCCD#32)) (spread 0x3F800000#32))
    (spread 0x322BCC77#32))

/-- The sum of the three masked logarithms, entry by entry. -/
abbrev entries (x : FVec Ideal S128x32768 .f32) (t : IVec S128x32768 32) : FVec Ideal S128x32768 .f32 :=
  addf (addf (mulf (mulf (spread 0x3F800000#32) (masked t 1#32)) (posLog x))
      (mulf (mulf (spread 0x3F800000#32) (masked t 0#32)) (negLog x)))
    (mulf (mulf (spread 0x3F800000#32) (masked t 4294967295#32)) (negLog x))

/-- The reference's result as a function of its arguments. -/
abbrev loss (x : FVec Ideal S128x32768 .f32) (t : IVec S128x32768 32) : FVec Ideal S_ .f32 :=
  Host.negf (Host.reduceAdd (entries x t) (constant S_ .f32 0x00000000#32) reducesTo_S128x32768_S_d0_1 h_S_)

/-- One entry is the score. -/
theorem entries_apply (x : FVec Ideal S128x32768 .f32) (t : IVec S128x32768 32) (r : Fin 128) (l : Fin 32768)
    (ht : t (ix2 r l) = 1#32 ∨ t (ix2 r l) = 0#32 ∨ t (ix2 r l) = 4294967295#32) :
    entries x t (ix2 r l) = (score (x (ix2 r l)) (t (ix2 r l)) : EReal) := by
  rw [← reference_entry _ _ ht, ← word_eps, ← word_shift, ← mask_eq, ← mask_eq, ← mask_eq]
  pointwise [entries, posLog, negLog, probs, masked, spread]
  rfl

/-- The result is the negated sum of all the scores. -/
theorem loss_apply (x : FVec Ideal S128x32768 .f32) (t : IVec S128x32768 32) (j : S_.Idx)
    (ht : ∀ i, t i = 1#32 ∨ t i = 0#32 ∨ t i = 4294967295#32) :
    loss x t j = ((-∑ r : Fin 128, rowScore x t r : ℝ) : EReal) := by
  have h : loss x t j = -(0 + ∑ r : Fin 128, ∑ l : Fin 32768, entries x t (ix2 r l)) := by
    unfold loss
    generalize entries x t = e
    pointwise
  rw [h]
  simp only [entries_apply x t _ _ (ht _), coe_sum, zero_add, EReal.coe_neg, rowScore]

/-- The run: the result is `loss` of the arguments, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.ReferenceIdeal.Loss

end
-- ==== Proof.Targets.lean ====
/-
  The precondition read back: a target in the range is one of the words 1, 0 and -1.
-/
module

public import proofs.«01_k».proof.Defs
public import proofs.«01_k».proof.Proof.Gen.Pre_targets_in_range
public import Idealize.ShloMosaic.Lib.ReduceAll

@[expose] public section

noncomputable section

namespace Cert.Pre_targets_in_range

open Idealize.ShloMosaic

/-- A word between -1 and 1, signed, is 1, 0 or -1. -/
theorem word_cases (t : BitVec 32) (hlo : -1 ≤ t.toInt) (hhi : t.toInt ≤ 1) :
    t = 1#32 ∨ t = 0#32 ∨ t = 4294967295#32 := by
  have h : t.toInt = 1 ∨ t.toInt = 0 ∨ t.toInt = -1 := by omega
  rcases h with h | h | h
  · exact .inl (BitVec.eq_of_toInt_eq h)
  · exact .inr (.inl (BitVec.eq_of_toInt_eq h))
  · exact .inr (.inr (BitVec.eq_of_toInt_eq h))

/-- Under the precondition every target is 1, 0 or -1. -/
theorem target_cases (x : FVec Ideal S128x32768 .f32) (t : IVec S128x32768 32) (h : fn x t = fun _ => 1#1)
    (i : S128x32768.Idx) : t i = 1#32 ∨ t i = 0#32 ∨ t i = 4294967295#32 := by
  have e := congrFun h (fun a => a.elim0)
  dsimp only [fn] at e
  haveI : Subsingleton S_.Idx := ⟨fun a b => funext fun k => k.elim0⟩
  obtain ⟨h1, h2⟩ := IntOp.andi_eq_one.1 (Host.reduce_andi_all _ _ _ _ _ e i)
  exact word_cases _ (IntOp.cmpi_sge.1 h1) (IntOp.cmpi_sle.1 h2)

end Cert.Pre_targets_in_range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_targets_in_range
public import proofs.«01_k».proof.Proof.Gen.ReferenceIdeal.Run
public import proofs.«01_k».proof.Proof.Kernel
public import proofs.«01_k».proof.Proof.Reference
public import proofs.«01_k».proof.Proof.Targets
public import Idealize.ShloMosaic.Adequacy
public import Idealize.ShloMosaic.Init

@[expose] public section

noncomputable section

namespace Cert.Proof

open Idealize.ShloMosaic Idealize.ShloMosaic.TcCoe Idealize.SL.Sem

/-- Every run of the reference ends, leaves its arguments unchanged and every semaphore counter at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Loss.run m ρ)

/-- The two results are one: each is the negated sum of the scores of the 128 rows. -/
theorem same_loss : Cert.algebraic_KernelIdeal_ReferenceIdeal_pre_targets_in_range := by
  intro m ρ m' ρ' hpre hagree
  refine ⟨_, Cert.KernelIdeal.Grid.run m ρ, ?_⟩
  refine (θ_run Cert.ReferenceIdeal.defs _ _).mono (fun _ h c => ⟨(h c).1.trans ?_, (h c).2⟩)
    (Cert.ReferenceIdeal.Loss.run m' ρ')
  rw [(hagree c).1, (hagree c).2]
  funext j
  exact (Cert.ReferenceIdeal.Loss.loss_apply _ _ j (Cert.Pre_targets_in_range.target_cases _ _ (hpre c))).trans
    (Cert.KernelIdeal.Grid.result_eq m c j).symm

/-- All the claims. -/
theorem claim : Cert.Claim :=
  ⟨Cert.Kernel.Gen.facts, Cert.KernelIdeal.Gen.facts, Cert.ReferenceIdeal.Gen.facts, Cert.Pre_targets_in_range.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "one_plus_clip" .f32 0x3F866666#32
      ((281857229 / 268435456 : ℝ) : EReal) rfl,
    same_loss⟩

end Cert.Proof

end
